-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ preserves_Kernel_KernelIdeal
    ∧ algebraic_KernelIdeal_ReferenceIdeal (hKernelIdeal := hKernelIdeal) (hReferenceIdeal := hReferenceIdeal) (hPre_idx_in_range := hPre_idx_in_range)
-- ==== Pre_idx_in_range.lean ====
abbrev S3x512x512 : Shape := ⟨3, ![3, 512, 512]⟩
abbrev S262144 : Shape := ⟨1, ![262144]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S3x512x512 .f32) (main_arg1 : IVec S262144 32) : IVec S_ 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 32 := constantI S_ 32 262144#32
  let main_v2 : IVec S262144 32 := broadcastInDim S262144 ![] bcast_S_S262144 main_c_0
  let main_v3 : IVec S262144 1 := cmpi .slt main_arg1 main_v2
  let main_v4 : IVec S262144 1 := andi main_v1 main_v3
  let main_c_1 : IVec S_ 1 := constantI S_ 1 1#1
  let main_v5 : IVec S_ 1 := (fun x v => Host.reduce IntOp.andi x v reducesTo_S262144_S_d0 h_S_) main_v4 main_c_1
  main_v5
-- ==== Kernel.lean ====
abbrev S3x512x512 : Shape := ⟨3, ![3, 512, 512]⟩
abbrev S262144 : Shape := ⟨1, ![262144]⟩
abbrev S3x262144 : Shape := ⟨2, ![3, 262144]⟩
abbrev S786432 : Shape := ⟨1, ![786432]⟩
abbrev S8192 : Shape := ⟨1, ![8192]⟩
abbrev S_ : Shape := ⟨0, ![]⟩

abbrev nBuf : Table → Nat
  | .hbm => 7
  | .local .scVector .vmem => 2
  | _ => 0

abbrev bufTy : (tb : Table) → Fin (nBuf tb) → BufTy
  | .hbm, ⟨0, _⟩ => ⟨S3x512x512, .f32⟩
  | .hbm, ⟨1, _⟩ => ⟨S262144, .i32⟩
  | .hbm, ⟨2, _⟩ => ⟨S3x262144, .f32⟩
  | .hbm, ⟨3, _⟩ => ⟨S786432, .f32⟩
  | .hbm, ⟨4, _⟩ => ⟨S786432, .f32⟩
  | .hbm, ⟨5, _⟩ => ⟨S3x262144, .f32⟩
  | .hbm, ⟨6, _⟩ => ⟨S3x512x512, .f32⟩
  | .local .scVector .vmem, ⟨0, _⟩ => ⟨S8192, .i32⟩
  | .local .scVector .vmem, ⟨1, _⟩ => ⟨S8192, .f32⟩
  | _, _ => ⟨S3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v7 : BitVec 32 := Scalar.addi c0_i32_3 v2
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x512x512 : Shape := ⟨3, ![3, 512, 512]⟩
abbrev S262144 : Shape := ⟨1, ![262144]⟩
abbrev S3x262144 : Shape := ⟨2, ![3, 262144]⟩
abbrev S_ : Shape := ⟨0, ![]⟩
abbrev S262144x1 : Shape := ⟨2, ![262144, 1]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S3x512x512, .f32⟩
  | .hbm, ⟨1, _⟩ => ⟨S262144, .i32⟩
  | .hbm, ⟨2, _⟩ => ⟨S3x262144, .f32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S1, .i32⟩
  | .hbm, ⟨12, _⟩ => ⟨S_, .i32⟩
  | .hbm, ⟨13, _⟩ => ⟨S262144x1, .i32⟩
  | .hbm, ⟨14, _⟩ => ⟨S262144x1, .i1⟩
  | .hbm, ⟨15, _⟩ => ⟨S1x1, .i32⟩
  | .hbm, ⟨16, _⟩ => ⟨S262144x1, .i32⟩
  | .hbm, ⟨17, _⟩ => ⟨S262144x1, .i1⟩
  | .hbm, ⟨18, _⟩ => ⟨S262144x1, .i1⟩
  | .hbm, ⟨19, _⟩ => ⟨S_, .i1⟩
  | .hbm, ⟨20, _⟩ => ⟨S262144, .i1⟩
  | .hbm, ⟨21, _⟩ => ⟨S3x262144, .f32⟩
  | .hbm, ⟨22, _⟩ => ⟨S3x262144, .i1⟩
  | .hbm, ⟨23, _⟩ => ⟨S_, .f32⟩
  | .hbm, ⟨24, _⟩ => ⟨S3x262144, .f32⟩
  | .hbm, ⟨25, _⟩ => ⟨S3x262144, .f32⟩
  | .hbm, ⟨26, _⟩ => ⟨S3x512x512, .f32⟩
  | _, _ => ⟨S3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.SetupIdeal.lean ====
/-
  The shuffle kernel as the SparseCore's launch theorem sees it, the arrays and the views through which one vector
  subcore's task reaches them, and the contents that its copies move: `gather_val` says which element of the image an
  indirect gather brings for each row number, and `block_val` what an array holds on a block that was written.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Routing.Ops
public import Idealize.ShloMosaic.Lib.Pipeline.ValueKit.Geometry
public import proofs.«01_k».proof.Proof.Gen.KernelIdeal
public import proofs.«01_k».proof.Proof.Gen.KernelIdeal.Skeleton

@[expose] public section

set_option maxRecDepth 16384

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are apart and unscoped, and no buffer of a SparseCore is shared between its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened image, the row numbers and the shuffled image in HBM. -/
abbrev xLoc (d : Dev nD) : Loc nD τ sig := (SparseCore.T d).loc main_v1
abbrev iLoc (d : Dev nD) : Loc nD τ sig := (SparseCore.T d).loc main_arg1
abbrev oLoc (d : Dev nD) : Loc nD τ sig := (SparseCore.T d).loc main_v2

local notation "xV" => (Memref.whole Cert.KernelIdeal.main_v1_scv : Memref Cert.KernelIdeal.sig Kind.scVector Space.hbm Cert.KernelIdeal.S786432 EltTy.f32)
local notation "iV" => (Memref.whole Cert.KernelIdeal.main_arg1_scv : Memref Cert.KernelIdeal.sig Kind.scVector Space.hbm Cert.KernelIdeal.S262144 EltTy.i32)
local notation "oV" => (Memref.whole Cert.KernelIdeal.main_v2_scv : Memref Cert.KernelIdeal.sig Kind.scVector Space.hbm Cert.KernelIdeal.S786432 EltTy.f32)
local notation "sV" => (Memref.whole Cert.KernelIdeal.cc0_scratch0 : Memref Cert.KernelIdeal.sig Kind.scVector Space.vmem Cert.KernelIdeal.S8192 EltTy.i32)
local notation "rV" => (Memref.whole Cert.KernelIdeal.cc0_scratch1 : Memref Cert.KernelIdeal.sig Kind.scVector Space.vmem Cert.KernelIdeal.S8192 EltTy.f32)

/-- Position `n` of the flat image, and pixel `n` of one channel. -/
abbrev at3 (n : ℕ) (h : n < 786432) : S786432.Idx := fun | 0 => ⟨n, h⟩
abbrev at1 (n : ℕ) (h : n < 262144) : S262144.Idx := fun | 0 => ⟨n, h⟩

/-- The shuffled flat image: position `n` lies in channel `n / 262144` at pixel `n % 262144`, and holds the element of
    that channel at the pixel which the row numbers name there. -/
def shuf {α : Type} (x : S786432.Idx → α) (idx : S262144.Idx → BitVec 32) : S786432.Idx → α := fun j =>
  x (at3 (262144 * ((j 0).val / 262144) + (idx (at1 ((j 0).val % 262144) (Nat.mod_lt _ (by decide)))).toNat % 262144) (by
    have h : (j 0).val < 786432 := (j 0).isLt
    omega))

/-! ## The task's views -/

section Tile

variable (d : Dev nD) (L : grid0.Coords)

abbrev cV (L : grid0.Coords) : Fin τ.nSC := (L 0).castLE hcore0
abbrev jV (L : grid0.Coords) : Fin τ.nSub := (L 1).castLE hsub0

/-- The task's slice of the row numbers. -/
abbrev iRowK (L : grid0.Coords) : Memref sig .scVector .hbm S8192 .i32 :=
  (iV).slice (Rect.unit (s := S262144) (k0_off1 L) S8192.size (k0_off1_inb L)) (fun _ => rfl)
/-- Its block of the result, in each of the three channels. -/
abbrev oRow0 (L : grid0.Coords) : Memref sig .scVector .hbm S8192 .f32 :=
  (oV).slice (Rect.unit (s := S786432) (k0_off2 L 0#32) S8192.size (k0_off2_inb L 0)) (fun _ => rfl)
abbrev oRow1 (L : grid0.Coords) : Memref sig .scVector .hbm S8192 .f32 :=
  (oV).slice (Rect.unit (s := S786432) (k0_off2 L 262144#32) S8192.size (k0_off2_inb L 1)) (fun _ => rfl)
abbrev oRow2 (L : grid0.Coords) : Memref sig .scVector .hbm S8192 .f32 :=
  (oV).slice (Rect.unit (s := S786432) (k0_off2 L 524288#32) S8192.size (k0_off2_inb L 2)) (fun _ => rfl)
/-- The three channels of the flat image. -/
abbrev xCh0 : Memref sig .scVector .hbm S262144 .f32 :=
  ((xV).slice (Rect.unit (s := S786432) ![0] S262144.size inb_S786432_S262144_0) (fun _ => rfl)).slice
    (Rect.unit (s := S262144) ![0] S262144.size inb_S262144_S262144_0) (fun _ => rfl)
abbrev xCh1 : Memref sig .scVector .hbm S262144 .f32 :=
  ((xV).slice (Rect.unit (s := S786432) ![262144] S262144.size inb_S786432_S262144_262144) (fun _ => rfl)).slice
    (Rect.unit (s := S262144) ![0] S262144.size inb_S262144_S262144_0) (fun _ => rfl)
abbrev xCh2 : Memref sig .scVector .hbm S262144 .f32 :=
  ((xV).slice (Rect.unit (s := S786432) ![524288] S262144.size inb_S786432_S262144_524288) (fun _ => rfl)).slice
    (Rect.unit (s := S262144) ![0] S262144.size inb_S262144_S262144_0) (fun _ => rfl)

/-! ## The contents that the copies move -/

/-- Two positions of the flat image with one number are one. -/
theorem at3_ext {i j : S786432.Idx} (h : (i 0).val = (j 0).val) : i = j := by
  funext a; match a with | 0 => exact Fin.ext h

/-- Two pixels of a channel with one number are one. -/
theorem at1_ext {i j : S262144.Idx} (h : (i 0).val = (j 0).val) : i = j := by
  funext a; match a with | 0 => exact Fin.ext h

/-- Entry `k` of a list of 8192 words, counted in row-major order, is the word at `k`. -/
theorem list_entry (j : S8192.Idx) (hn : S8192.numel = S8192.size gathers_S262144_S8192.axis') :
    S8192.rowMajor.symm ((j gathers_S262144_S8192.axis').cast hn.symm) = j := by
  refine (Routing.symm1 (N := 8192) _).trans ?_
  funext a; match a with | 0 => rfl

/-- What an indirect gather of one channel brings for entry `j` of its list: the element of that channel at the pixel
    which the list names. -/
theorem gather_val (o : ℕ) (inb : ∀ a, (![o] : Fin 1 → ℕ) a + S262144.size a ≤ S786432.size a) (h₁) (h₂)
    (fx : S786432.Idx → Elt F .f32) (list : S8192.Idx → Elt F .i32) (hn) (hin) (j : S8192.Idx)
    (hb : o + (list j).toNat < 786432) :
    SparseCore.gatherPayload gathers_S262144_S8192
      (View.read (Elt F) (((xV).slice (Rect.unit (s := S786432) ![o] S262144.size inb) h₁).slice
        (Rect.unit (s := S262144) ![0] S262144.size inb_S262144_S262144_0) h₂).view fx)
      (SparseCore.rows list hn hin) j = fx (at3 (o + (list j).toNat) hb) := by
  unfold SparseCore.gatherPayload
  refine ((View.read_apply _ _).trans (cast_eq _ _)).trans (congrArg fx (at3_ext ?_))
  have h := (congrArg Fin.val (Shape.Gathers.idx_axis gathers_S262144_S8192 (SparseCore.rows list hn hin) j)).trans
    (congrArg (fun i => (list i).toNat) (list_entry j hn))
  show o + 1 * (0 + 1 * _) = o + _
  rw [one_mul, zero_add, one_mul]
  exact congrArg (o + ·) h

/-- An array written through a block of 8192 elements from `o` on with what `G` holds there, holds `G` on the block. -/
theorem block_val (o : Fin 1 → ℕ) (inb : ∀ a, o a + S8192.size a ≤ S786432.size a) (h₁) (p : S8192.Idx → Elt F .f32)
    (f G : S786432.Idx → Elt F .f32)
    (hp : ∀ j : S8192.Idx, ∀ hb : o 0 + (j 0).val < 786432, p j = G (at3 (o 0 + (j 0).val) hb)) :
    ∀ i ∈ ((oV).slice (Rect.unit (s := S786432) o S8192.size inb) h₁).view.set,
      ((oV).slice (Rect.unit (s := S786432) o S8192.size inb) h₁).view.writes (Elt F) f [⟨Rect.whole S8192, p⟩] i = G i := by
  intro i hi
  obtain ⟨j, -, rfl⟩ := Finset.mem_map.mp hi
  have hj : (j 0).val < 8192 := (j 0).isLt
  have ho : o 0 + 8192 ≤ 786432 := inb 0
  have h := congrFun (View.read_writes_whole ((oV).slice (Rect.unit (s := S786432) o S8192.size inb) h₁).view f p) j
  refine (((View.read_apply _ _).trans (cast_eq _ _)).symm.trans h).trans ((hp j (by omega)).trans (congrArg G (at3_ext ?_)))
  show _ = o 0 + 1 * (j 0).val
  rw [one_mul]

/-- The shuffled image on a task's block of channel `c`, whose pixels begin at `b`: the channel's element at the pixel
    which the row number of that pixel names. -/
theorem shuf_block {α : Type} (x : S786432.Idx → α) (idx : S262144.Idx → BitVec 32) (c b k : ℕ) (hc : c < 3) (hb : b + k < 262144)
    (hlt : (idx (at1 (b + k) hb)).toNat < 262144) (h : 262144 * c + b + k < 786432) (h' : 262144 * c + (idx (at1 (b + k) hb)).toNat < 786432) :
    shuf x idx (at3 (262144 * c + b + k) h) = x (at3 (262144 * c + (idx (at1 (b + k) hb)).toNat) h') := by
  unfold shuf
  refine congrArg x (at3_ext ?_)
  have e : at1 ((262144 * c + b + k) % 262144) (Nat.mod_lt _ (by decide)) = at1 (b + k) hb := at1_ext (by
    show (262144 * c + b + k) % 262144 = b + k
    omega)
  show 262144 * ((262144 * c + b + k) / 262144) + (idx (at1 ((262144 * c + b + k) % 262144) _)).toNat % 262144 = 262144 * c + (idx (at1 (b + k) hb)).toNat
  rw [e, Nat.mod_eq_of_lt hlt]
  omega

/-- Every row number is a pixel. -/
def InRange (idx : S262144.Idx → BitVec 32) : Prop := ∀ j, (idx j).toNat < 262144

/-- The scratch buffer that the row numbers were fetched into reads, at entry `j`, the row number of the task's pixel `j`. -/
theorem list_val (fs : S8192.Idx → BitVec 32) (idx : S262144.Idx → BitVec 32) (j : S8192.Idx)
    (hb : 16384 * (L 1).val + 8192 * (L 0).val + (j 0).val < 262144) :
    (sV).view.read (Elt F) (View.write (Elt F) (sV).view fs ((iRowK L).view.read (Elt F) idx) Finset.univ) j
      = idx (at1 (16384 * (L 1).val + 8192 * (L 0).val + (j 0).val) hb) := by
  rw [View.write_whole_univ]
  simp only [Memref.view_whole, View.read_whole]
  refine ((View.read_apply _ _).trans (cast_eq _ _)).trans (congrArg idx (at1_ext ?_))
  have ho : k0_off1 L 0 = 16384 * (L 1).val + 8192 * (L 0).val := congrFun (k0_off1_eq L) 0
  show k0_off1 L 0 + 1 * (j 0).val = _
  rw [ho, one_mul]

/-- Row numbers fetched from in-range ones are in range. -/
theorem list_lt (idx : S262144.Idx → BitVec 32) (hpre : InRange idx) (fs : S8192.Idx → BitVec 32) :
    ∀ x, ((sV).view.read (Elt F) (View.write (Elt F) (sV).view fs ((iRowK L).view.read (Elt F) idx) Finset.univ) x).toNat
      < S262144.size gathers_S262144_S8192.axis := by
  intro j
  have hb : 16384 * (L 1).val + 8192 * (L 0).val + (j 0).val < 262144 := by
    have h₀ : (L 0).val < 2 := (L 0).isLt
    have h₁ : (L 1).val < 16 := (L 1).isLt
    have h₂ : (j 0).val < 8192 := (j 0).isLt
    omega
  rw [list_val L fs idx j hb]
  exact hpre _

/-- A scratch buffer whose last write covered it reads as that write. -/
theorem stage_val (fr : S8192.Idx → Elt F .f32) (g : S8192.Idx → Elt F .f32) (ps : List (View.Piece (Elt F) S8192 .f32)) :
    (rV).view.read (Elt F) ((rV).view.writes (Elt F) fr (⟨Rect.whole S8192, g⟩ :: ps)) = g := by
  funext y
  exact (congrArg ((rV).view.read (Elt F) ((rV).view.writes (Elt F) fr (⟨Rect.whole S8192, g⟩ :: ps)))
    (Rect.emb_whole_apply (s := S8192) y).symm).trans (View.read_writes_cons_emb (rV).view fr (Rect.whole S8192) g ps y)

/-- What a task gathers of channel `c` for its entry `j`: the shuffled image at that channel's pixel `j` of the task. -/
theorem channel_val (c : ℕ) (hc : c < 3) (o : ℕ) (ho : o = 262144 * c) (inb : ∀ a, (![o] : Fin 1 → ℕ) a + S262144.size a ≤ S786432.size a) (h₁) (h₂)
    (fx : S786432.Idx → Elt F .f32) (fs : S8192.Idx → BitVec 32) (idx : S262144.Idx → BitVec 32) (hpre : InRange idx) (hn) (hin) (j : S8192.Idx)
    (hb : 262144 * c + 16384 * (L 1).val + 8192 * (L 0).val + (j 0).val < 786432) :
    SparseCore.gatherPayload gathers_S262144_S8192
      (View.read (Elt F) (((xV).slice (Rect.unit (s := S786432) ![o] S262144.size inb) h₁).slice
        (Rect.unit (s := S262144) ![0] S262144.size inb_S262144_S262144_0) h₂).view fx)
      (SparseCore.rows ((sV).view.read (Elt F) (View.write (Elt F) (sV).view fs ((iRowK L).view.read (Elt F) idx) Finset.univ)) hn hin) j
      = shuf fx idx (at3 (262144 * c + 16384 * (L 1).val + 8192 * (L 0).val + (j 0).val) hb) := by
  have h₀ : (L 0).val < 2 := (L 0).isLt
  have h₁ : (L 1).val < 16 := (L 1).isLt
  have h₂ : (j 0).val < 8192 := (j 0).isLt
  subst ho
  have hq : 16384 * (L 1).val + 8192 * (L 0).val + (j 0).val < 262144 := by omega
  have hv := list_val (F := F) L fs idx j hq
  have hl := hpre (at1 (16384 * (L 1).val + 8192 * (L 0).val + (j 0).val) hq)
  rw [gather_val (262144 * c) inb _ _ fx _ hn hin j (by rw [hv]; omega)]
  rw [show at3 (262144 * c + 16384 * (L 1).val + 8192 * (L 0).val + (j 0).val) hb
      = at3 (262144 * c + (16384 * (L 1).val + 8192 * (L 0).val) + (j 0).val) (by omega) from at3_ext (by
        show 262144 * c + 16384 * (L 1).val + 8192 * (L 0).val + (j 0).val = 262144 * c + (16384 * (L 1).val + 8192 * (L 0).val) + (j 0).val
        omega),
    shuf_block fx idx c (16384 * (L 1).val + 8192 * (L 0).val) (j 0).val hc hq hl _ (by omega)]
  exact congrArg fx (at3_ext (congrArg (fun v : BitVec 32 => 262144 * c + v.toNat) hv))

end Tile

end Cert.Proof.RunIdeal

end
-- ==== Proof.TileIdeal.lean ====
/-
  One vector subcore's task of the shuffle kernel. The task copies its 8192 row numbers into its own memory, and for
  each of the three channels gathers the elements of that channel which the row numbers name and copies them out to its
  block of the result. The theorem `tile_body` says with which CONTENTS the three blocks end: those of `shuf`, the
  shuffled array as one function of the two operands.
-/
module

public import proofs.«01_k».proof.Proof.SetupIdeal

@[expose] public section

set_option maxRecDepth 16384

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v1_scv : Memref Cert.KernelIdeal.sig Kind.scVector Space.hbm Cert.KernelIdeal.S786432 EltTy.f32)
local notation "iV" => (Memref.whole Cert.KernelIdeal.main_arg1_scv : Memref Cert.KernelIdeal.sig Kind.scVector Space.hbm Cert.KernelIdeal.S262144 EltTy.i32)
local notation "oV" => (Memref.whole Cert.KernelIdeal.main_v2_scv : Memref Cert.KernelIdeal.sig Kind.scVector Space.hbm Cert.KernelIdeal.S786432 EltTy.f32)
local notation "sV" => (Memref.whole Cert.KernelIdeal.cc0_scratch0 : Memref Cert.KernelIdeal.sig Kind.scVector Space.vmem Cert.KernelIdeal.S8192 EltTy.i32)
local notation "rV" => (Memref.whole Cert.KernelIdeal.cc0_scratch1 : Memref Cert.KernelIdeal.sig Kind.scVector Space.vmem Cert.KernelIdeal.S8192 EltTy.f32)

section Tile

variable (d : Dev nD) (L : grid0.Coords)

/-! ## The task's own semaphores and scratch -/

abbrev cG (d : Dev nD) (c : Fin τ.nSC) (i : Fin τ.nSub) : GSem nD τ sig := (V d c i, .dma cc0_scratch2.sem)
abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scoped1.sem)
abbrev cC (d : Dev nD) (c : Fin τ.nSC) (i : Fin τ.nSub) : GSem nD τ sig := (V d c i, .dma cc0_scoped2.sem)
abbrev cD (d : Dev nD) (c : Fin τ.nSC) (i : Fin τ.nSub) : GSem nD τ sig := (V d c i, .dma cc0_scoped3.sem)

/-- The cells the task uses, and the two scratch buffers, taken out of what a subcore owns: some remainder is left. -/
theorem ownSems0_V : ∃ R : sProp 𝕄, (ownSems0 (V d (cV L) (jV L)) : sProp 𝕄)
    = iprop(semVal (cG d (cV L) (jV L)) 0 ∗ semVal (cA d (cV L) (jV L)) 0 ∗ semVal (cB d (cV L) (jV L)) 0
        ∗ semVal (cC d (cV L) (jV L)) 0 ∗ semVal (cD d (cV L) (jV L)) 0 ∗ R) := by
  have own : ∀ s : DmaSem sig, (SemLoc.dma s : SemLoc sig).isScoped .scVector = true →
      ((V d (cV L) (jV L), .dma s) : GSem nD τ sig) ∈ ownCells (V d (cV L) (jV L)) := fun s h => mem_ownCells.mpr ⟨rfl, h⟩
  have ne : ∀ s t : DmaSem sig, s ≠ t → ((V d (cV L) (jV L), SemLoc.dma s) : GSem nD τ sig) ≠ (V d (cV L) (jV L), SemLoc.dma t) :=
    fun s t h e => h (SemLoc.dma.inj (Prod.mk.inj e).2)
  refine ⟨?_, ?_⟩
  rotate_left
  · unfold SparseCore.Cfg.ownSems0
    rw [SparseCore.bigSep_erase' (own cc0_scratch2.sem (by decide)),
      SparseCore.bigSep_erase' (Finset.mem_erase.mpr ⟨ne cc0_scoped0.sem _ (by decide), own _ (by decide)⟩),
      SparseCore.bigSep_erase' (Finset.mem_erase.mpr ⟨ne cc0_scoped1.sem _ (by decide), Finset.mem_erase.mpr ⟨ne _ _ (by decide), own _ (by decide)⟩⟩),
      SparseCore.bigSep_erase' (Finset.mem_erase.mpr ⟨ne cc0_scoped2.sem _ (by decide), Finset.mem_erase.mpr ⟨ne _ _ (by decide),
        Finset.mem_erase.mpr ⟨ne _ _ (by decide), own _ (by decide)⟩⟩⟩),
      SparseCore.bigSep_erase' (Finset.mem_erase.mpr ⟨ne cc0_scoped3.sem _ (by decide), Finset.mem_erase.mpr ⟨ne _ _ (by decide),
        Finset.mem_erase.mpr ⟨ne _ _ (by decide), Finset.mem_erase.mpr ⟨ne _ _ (by decide), own _ (by decide)⟩⟩⟩⟩)]

theorem ownBufs_V : ∃ R : sProp 𝕄, (ownBufs (V d (cV L) (jV L)) : sProp 𝕄)
    = iprop((∃ f, (sV).view.loc (V d (cV L) (jV L)) ↦{fullShare} f) ∗ (∃ f, (rV).view.loc (V d (cV L) (jV L)) ↦{fullShare} f) ∗ R) := by
  refine ⟨?_, ?_⟩
  rotate_left
  · unfold SparseCore.Cfg.ownBufs
    refine (SparseCore.bigSep_erase' (SparseCore.Cfg.mem_ownRefs_of_owner (p := Proc.scVector (cV L) (jV L))
      (b := (Proc.scVector (cV L) (jV L)).devRef cc0_scratch0) rfl)).trans ?_
    rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩)]

/-! ## The task -/

variable (xc : (d : Dev nD) → Buf (Elt F) (xLoc d)) (ic : (d : Dev nD) → Buf (Elt F) (iLoc d)) (oc : (d : Dev nD) → Buf (Elt F) (oLoc d))

/-- What the task is given and gives back: its slice of the row numbers, a share of the image, its three blocks. -/
abbrev tileRes (qi qx : PosShare TreeShare) (o : Buf (Elt F) (oLoc d)) : sProp 𝕄 :=
  iprop(((iV).view.loc (V d (cV L) (jV L)) ↦{qi} ic d)
    ∗ ((xV).view.loc (V d (cV L) (jV L)) ↦{qx} xc d)
    ∗ ((oRow0 L).view.loc (V d (cV L) (jV L)) ↦[(oRow0 L).view.set]{fullShare} o)
    ∗ ((oRow1 L).view.loc (V d (cV L) (jV L)) ↦[(oRow1 L).view.set]{fullShare} o)
    ∗ ((oRow2 L).view.loc (V d (cV L) (jV L)) ↦[(oRow2 L).view.set]{fullShare} o))

variable [FloatOps F]

set_option maxHeartbeats 4000000 in
/-- The task on vector subcore `(L 0, L 1)` of device `d`: given its resources it runs to its end, and gives them back
    with its three blocks holding the shuffled image; every semaphore of its own is back at zero. -/
theorem tile_body (hF : (K (F := F)).Facts) (hpre : ∀ d, InRange (ic d)) (qi qx : PosShare TreeShare) (O : CellTallies nD τ sig (HIx 1)) (W : Waits sig (HIx 1)) (hO : ∀ g, O g none = 0) :
    iprop(levAts (K (F := F)).L (K (F := F)).lev ∗ emp
        ∗ tileRes d L xc ic qi qx (oc d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3)
          fun _ => iprop(tileRes d L xc ic qi qx (shuf (xc d) (ic d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  have hin := list_lt (F := F) L (ic d) (hpre d)
  simp only [cc0_k_eq_skeleton]; unfold cc0_k_skel
  rw [k0_part1_eq_skeleton]; unfold k0_part1_skel
  rw [(K (F := F)).scopedBufs_V hF d (cV L) (jV L), SparseCore.Cfg.scopedSems0_V (Val := Elt F) d (cV L) (jV L), hRS, hRB]
  iintro ⟨#Hlv, -, ⟨Hi, Hx, Ho0, Ho1, Ho2⟩, ⟨⟨%fs, Hs⟩, ⟨%fr, Hr⟩, Hbufs⟩, ⟨HsemG, HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  sl_step
  have e0 : ∀ i ∈ (oRow0 L).view.set, (oRow0 L).view.writes (Elt F) (oc d) [⟨Rect.whole S8192, tile_body.sl.dma0_1 d L xc ic hin fs fr⟩] i
      = shuf (xc d) (ic d) i := by
    refine block_val _ _ _ _ _ _ fun j hb => ?_
    have ho : k0_off2 L 0#32 0 = 262144 * 0 + 16384 * (L 1).val + 8192 * (L 0).val := congrFun (k0_off2_eq L 0) 0
    refine (congrFun (stage_val (F := F) fr (tile_body.sl.gather1 d L xc ic hin fs) []) j).trans ?_
    refine (channel_val (F := F) L 0 (by decide) 0 rfl inb_S786432_S262144_0 _ _ (xc d) fs (ic d) (hpre d) _ _ j (by omega)).trans ?_
    exact congrArg (shuf (xc d) (ic d)) (at3_ext (by show _ = k0_off2 L 0#32 0 + (j 0).val; rw [ho]))
  have e1 : ∀ i ∈ (oRow1 L).view.set, (oRow1 L).view.writes (Elt F) (oc d) [⟨Rect.whole S8192, tile_body.sl.dma0_2 d L xc ic hin fs fr⟩] i
      = shuf (xc d) (ic d) i := by
    refine block_val _ _ _ _ _ _ fun j hb => ?_
    have ho : k0_off2 L 262144#32 0 = 262144 * 1 + 16384 * (L 1).val + 8192 * (L 0).val := congrFun (k0_off2_eq L 1) 0
    refine (congrFun (stage_val (F := F) fr (tile_body.sl.gather3 d L xc ic hin fs) _) j).trans ?_
    refine (channel_val (F := F) L 1 (by decide) 262144 rfl inb_S786432_S262144_262144 _ _ (xc d) fs (ic d) (hpre d) _ _ j (by omega)).trans ?_
    exact congrArg (shuf (xc d) (ic d)) (at3_ext (by show _ = k0_off2 L 262144#32 0 + (j 0).val; rw [ho]))
  have e2 : ∀ i ∈ (oRow2 L).view.set, (oRow2 L).view.writes (Elt F) (oc d) [⟨Rect.whole S8192, tile_body.sl.dma0_3 d L xc ic hin fs fr⟩] i
      = shuf (xc d) (ic d) i := by
    refine block_val _ _ _ _ _ _ fun j hb => ?_
    have ho : k0_off2 L 524288#32 0 = 262144 * 2 + 16384 * (L 1).val + 8192 * (L 0).val := congrFun (k0_off2_eq L 2) 0
    refine (congrFun (stage_val (F := F) fr (tile_body.sl.gather5 d L xc ic hin fs) _) j).trans ?_
    refine (channel_val (F := F) L 2 (by decide) 524288 rfl inb_S786432_S262144_524288 _ _ (xc d) fs (ic d) (hpre d) _ _ j (by omega)).trans ?_
    exact congrArg (shuf (xc d) (ic d)) (at3_ext (by show _ = k0_off2 L 524288#32 0 + (j 0).val; rw [ho]))
  ihave Ho0 := (Entails.of_eq (pointsTo_congr e0)) $$ Ho0
  ihave Ho1 := (Entails.of_eq (pointsTo_congr e1)) $$ Ho1
  ihave Ho2 := (Entails.of_eq (pointsTo_congr e2)) $$ Ho2
  isplitl [Hi Hx Ho0 Ho1 Ho2]
  · isplitl [Hi]; · iexact Hi
    isplitl [Hx]; · iexact Hx
    isplitl [Ho0]; · iexact Ho0
    isplitl [Ho1]; · iexact Ho1
    iexact Ho2
  isplitl [Hs Hr Hbufs]
  · isplitl [Hs]; · iexists _; iexact Hs
    isplitl [Hr]; · iexists _; iexact Hr
    iexact Hbufs
  isplitl [HsemG HsemA HsemB HsemC HsemD Hsems]
  · isplitl [HsemG]; · iexact HsemG
    isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  simp only [Finset.mem_insert] at hp
  rcases hp with hp | hp | hp | hp | hp | hp | hp | hp <;> first | exact .inr (hp ▸ rfl) | exact .inl hp

end Tile

end Cert.Proof.RunIdeal

end
-- ==== Proof.LaunchIdeal.lean ====
/-
  The shuffle kernel's launch: how the arrays split among the 2 × 16 tasks and join again, @main on the TensorCore with
  its reshapes before and after the SparseCore call, and the run of the whole program (`run_main`): every execution ends,
  with both arguments unchanged, every semaphore at zero and the result equal to the shuffled image `result`.
-/
module

public import proofs.«01_k».proof.Proof.TileIdeal

@[expose] public section

set_option maxRecDepth 16384

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ
local notation "xV" => (Memref.whole Cert.KernelIdeal.main_v1_scv : Memref Cert.KernelIdeal.sig Kind.scVector Space.hbm Cert.KernelIdeal.S786432 EltTy.f32)
local notation "iV" => (Memref.whole Cert.KernelIdeal.main_arg1_scv : Memref Cert.KernelIdeal.sig Kind.scVector Space.hbm Cert.KernelIdeal.S262144 EltTy.i32)
local notation "oV" => (Memref.whole Cert.KernelIdeal.main_v2_scv : Memref Cert.KernelIdeal.sig Kind.scVector Space.hbm Cert.KernelIdeal.S786432 EltTy.f32)
local notation "sV" => (Memref.whole Cert.KernelIdeal.cc0_scratch0 : Memref Cert.KernelIdeal.sig Kind.scVector Space.vmem Cert.KernelIdeal.S8192 EltTy.i32)
local notation "rV" => (Memref.whole Cert.KernelIdeal.cc0_scratch1 : Memref Cert.KernelIdeal.sig Kind.scVector Space.vmem Cert.KernelIdeal.S8192 EltTy.f32)

/-! ## The arrays split among the tasks -/

/-- The grid coordinates of subcore `s` on SparseCore `c`. -/
def Lof (c : Fin 2) (s : Fin 16) : grid0.Coords :=
  fun | 0 => c | 1 => s | ⟨_ + 2, h⟩ => absurd h (Nat.not_lt.2 (Nat.le_add_left _ _))

/-- The positions of the flat image that the task on subcore `p.2` of SparseCore `p.1` writes in channel `r`. -/
def blk (r : Fin 3) (p : Fin 2 × Fin 16) : Finset S786432.Idx :=
  Finset.univ.filter fun i => 262144 * r.val + 16384 * p.2.val + 8192 * p.1.val ≤ (i 0).val
    ∧ (i 0).val < 262144 * r.val + 16384 * p.2.val + 8192 * p.1.val + 8192

theorem mem_blk {r : Fin 3} {p : Fin 2 × Fin 16} {i : S786432.Idx} :
    i ∈ blk r p ↔ 262144 * r.val + 16384 * p.2.val + 8192 * p.1.val ≤ (i 0).val
      ∧ (i 0).val < 262144 * r.val + 16384 * p.2.val + 8192 * p.1.val + 8192 := by
  simp [blk]

/-- A block of the result, as the program slices it, is that set of positions. -/
theorem slice_set (o : Fin 1 → ℕ) (inb : ∀ a, o a + S8192.size a ≤ S786432.size a) (h₁) (r : Fin 3) (p : Fin 2 × Fin 16)
    (ho : o = ![262144 * r.val + 16384 * p.2.val + 8192 * p.1.val]) :
    ((oV).slice (Rect.unit (s := S786432) o S8192.size inb) h₁).view.set = blk r p := by
  have h : ((oV).slice (Rect.unit (s := S786432) o S8192.size inb) h₁).view.set = (Rect.unit (s := S786432) o S8192.size inb).set :=
    View.set_slice_whole _ _
  rw [h]
  ext i
  rw [Rect.mem_set_unit, mem_blk]
  subst ho
  constructor
  · intro H; exact H 0
  · intro H a; match a with | 0 => exact H

theorem oRow0_set (c : Fin 2) (s : Fin 16) : (oRow0 (Lof c s)).view.set = blk 0 (c, s) :=
  slice_set _ _ _ 0 (c, s) (k0_off2_eq (Lof c s) 0)
theorem oRow1_set (c : Fin 2) (s : Fin 16) : (oRow1 (Lof c s)).view.set = blk 1 (c, s) :=
  slice_set _ _ _ 1 (c, s) (k0_off2_eq (Lof c s) 1)
theorem oRow2_set (c : Fin 2) (s : Fin 16) : (oRow2 (Lof c s)).view.set = blk 2 (c, s) :=
  slice_set _ _ _ 2 (c, s) (k0_off2_eq (Lof c s) 2)

/-- The 96 blocks are apart, -/
theorem blk_disjoint (x y : Fin 3 × (Fin 2 × Fin 16)) (h : x ≠ y) : Disjoint (blk x.1 x.2) (blk y.1 y.2) := by
  rw [Finset.disjoint_left]
  intro i hx hy
  rw [mem_blk] at hx hy
  have h1 := x.2.1.isLt; have h2 := x.2.2.isLt; have h3 := y.2.1.isLt; have h4 := y.2.2.isLt
  refine h (Prod.ext (Fin.ext ?_) (Prod.ext (Fin.ext ?_) (Fin.ext ?_))) <;> omega

/-- and make up the whole result. -/
theorem blk_cover : (Finset.univ : Finset (Fin 3 × (Fin 2 × Fin 16))).biUnion (fun x => blk x.1 x.2) = Finset.univ := by
  refine Finset.eq_univ_iff_forall.mpr fun i => Finset.mem_biUnion.mpr ?_
  have hi : (i 0).val < 786432 := (i 0).isLt
  refine ⟨(⟨(i 0).val / 262144, by omega⟩, ⟨(i 0).val / 8192 % 2, by omega⟩, ⟨(i 0).val % 262144 / 16384, by omega⟩), Finset.mem_univ _, mem_blk.mpr ?_⟩
  show 262144 * ((i 0).val / 262144) + 16384 * ((i 0).val % 262144 / 16384) + 8192 * ((i 0).val / 8192 % 2) ≤ (i 0).val
    ∧ (i 0).val < 262144 * ((i 0).val / 262144) + 16384 * ((i 0).val % 262144 / 16384) + 8192 * ((i 0).val / 8192 % 2) + 8192
  omega

/-- A result held whole is its 96 blocks, three to each task. -/
theorem out_blocks (d : Dev nD) (f : Buf (Elt F) (oLoc d)) :
    (oLoc d ↦{fullShare} f : sProp 𝕄) = iprop((bigSep Finset.univ fun p : Fin 2 × Fin 16 => oLoc d ↦[blk 0 p]{fullShare} f)
      ∗ (bigSep Finset.univ fun p : Fin 2 × Fin 16 => oLoc d ↦[blk 1 p]{fullShare} f)
      ∗ (bigSep Finset.univ fun p : Fin 2 × Fin 16 => oLoc d ↦[blk 2 p]{fullShare} f)) := by
  have h := pointsTo_biUnion (ℓ := oLoc d) (q := fullShare) (f := f) (Finset.univ : Finset (Fin 3 × (Fin 2 × Fin 16))) (fun x => blk x.1 x.2)
    (fun x _ y _ e => blk_disjoint x y e) (Ix := HIx 1) (Name := ℕ) (U := UU) (Lvl := ℕ)
  rw [blk_cover, bigSep_univ_prod] at h
  refine h.trans ?_
  rw [show (Finset.univ : Finset (Fin 3)) = {0, 1, 2} by decide, SparseCore.bigSep_insert' (by decide), SparseCore.bigSep_insert' (by decide),
    bigSep_singleton]

/-- The share of the operands that a task reads at: one of 32 pieces of the whole. -/
def shareOf (c : Fin 2) (s : Fin 16) : PosShare TreeShare := pieceOf fullShare 32 (by decide) (finProdFinEquiv (c, s))

/-- An array held whole is held at the tasks' shares at once. -/
theorem shares (ℓ : Loc nD τ sig) (f : Buf (Elt F) ℓ) :
    (ℓ ↦{fullShare} f : sProp 𝕄) = bigSep Finset.univ fun p : Fin 2 × Fin 16 => ℓ ↦{shareOf p.1 p.2} f := by
  rw [pointsTo_piecesOf Finset.univ f (show 0 < 32 by decide) fullShare,
    bigSep_univ_equiv (finProdFinEquiv : Fin 2 × Fin 16 ≃ Fin 32)]
  rfl

section Payload

variable (xc : (d : Dev nD) → Buf (Elt F) (xLoc d)) (ic : (d : Dev nD) → Buf (Elt F) (iLoc d)) (oc : (d : Dev nD) → Buf (Elt F) (oLoc d))

/-- A task's resources with its blocks of the result at `o`. -/
abbrev taskRes (d : Dev nD) (c : Fin 2) (s : Fin 16) (o : Buf (Elt F) (oLoc d)) : sProp 𝕄 :=
  tileRes d (Lof c s) xc ic (shareOf c s) (shareOf c s) o

/-- A task's resources, over the arrays. -/
theorem taskRes_eq (d : Dev nD) (c : Fin 2) (s : Fin 16) (o : Buf (Elt F) (oLoc d)) :
    (taskRes xc ic d c s o : sProp 𝕄) = iprop((iLoc d ↦{shareOf c s} ic d) ∗ (xLoc d ↦{shareOf c s} xc d)
      ∗ (oLoc d ↦[blk 0 (c, s)]{fullShare} o) ∗ (oLoc d ↦[blk 1 (c, s)]{fullShare} o) ∗ (oLoc d ↦[blk 2 (c, s)]{fullShare} o)) := by
  unfold taskRes tileRes
  rw [oRow0_set, oRow1_set, oRow2_set]

/-- The three arrays held whole are all the tasks' resources. -/
theorem all_tasks (d : Dev nD) (o : Buf (Elt F) (oLoc d)) :
    (iprop((iLoc d ↦{fullShare} ic d) ∗ (xLoc d ↦{fullShare} xc d) ∗ (oLoc d ↦{fullShare} o)) : sProp 𝕄)
      = bigSep Finset.univ fun c : Fin 2 => bigSep Finset.univ fun s : Fin 16 => taskRes xc ic d c s o := by
  rw [← bigSep_univ_prod fun p : Fin 2 × Fin 16 => taskRes xc ic d p.1 p.2 o,
    bigSep_congr fun p _ => taskRes_eq xc ic d p.1 p.2 o, bigSep_sep', bigSep_sep', bigSep_sep', bigSep_sep',
    shares (iLoc d), shares (xLoc d), out_blocks]

/-- What the launch's signals carry: to a SparseCore and back its sixteen tasks' resources, to a task and back its own. -/
def P : (K (F := F)).Pay (nD := nD) (Val := Elt F) (Name := ℕ) (U := UU) where
  st := fun q d c => match q with | 0 => bigSep Finset.univ fun i : Fin ((K (F := F)).nSub 0) => taskRes xc ic d c i (oc d)
  dn := fun q d c => match q with | 0 => bigSep Finset.univ fun i : Fin ((K (F := F)).nSub 0) => taskRes xc ic d c i (shuf (xc d) (ic d))
  go := fun q d c i => match q with | 0 => taskRes xc ic d c i (oc d)
  td := fun q d c i => match q with | 0 => taskRes xc ic d c i (shuf (xc d) (ic d))
  x := fun _ _ => iprop(emp)

instance P_storable : (P (F := F) xc ic oc).IsStorable where
  st q d c := match q with
    | 0 => (inferInstance : BI.Storable (upEmb : UEmb _ 𝕄) (bigSep Finset.univ fun i : Fin ((K (F := F)).nSub 0) => taskRes xc ic d c i (oc d)))
  dn q d c := match q with
    | 0 => (inferInstance : BI.Storable (upEmb : UEmb _ 𝕄) (bigSep Finset.univ fun i : Fin ((K (F := F)).nSub 0) => taskRes xc ic d c i (shuf (xc d) (ic d))))
  go q d c i := match q with
    | 0 => (inferInstance : BI.Storable (upEmb : UEmb _ 𝕄) (taskRes xc ic d c i (oc d)))
  td q d c i := match q with
    | 0 => (inferInstance : BI.Storable (upEmb : UEmb _ 𝕄) (taskRes xc ic d c i (shuf (xc d) (ic d))))

/-- A SparseCore's operands are its tasks', and so are its results. -/
theorem vecSplit : (K (F := F)).VecSplit' (P xc ic oc) 0 := by
  intro d c
  show (bigSep Finset.univ fun i : Fin ((K (F := F)).nSub 0) => taskRes xc ic d c i (oc d)) ⊢ |={Set.univ}=> iprop(
      (bigSep Finset.univ fun i : Fin ((K (F := F)).nSub 0) => taskRes xc ic d c i (oc d))
      ∗ ((bigSep Finset.univ fun i : Fin ((K (F := F)).nSub 0) => taskRes xc ic d c i (shuf (xc d) (ic d)))
          -∗ bigSep Finset.univ fun i : Fin ((K (F := F)).nSub 0) => taskRes xc ic d c i (shuf (xc d) (ic d))))
  iintro H; imodintro
  isplitl [H]; · iexact H
  iintro H; iexact H

variable [FloatOps F]

/-! ## The tasks' obligation -/

theorem defs₀_vector (c : Fin τ.nSC) (s : Fin τ.nSub) :
    defs₀ (F := F) (.scVector c s) 0 ()
      = SparseCore.onTile hcore0 hsub0 (fun c s => cc0_k (Lof c s)
          xV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3) ⟨⟩ c s := rfl

/-- What a task recorded as waited for, weakened to the form in which the launch asks for it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call, from what its signal carries, runs to what it brings back. -/
theorem tileObl (hF : (K (F := F)).Facts) (hpre : ∀ d, InRange (ic d)) : (K (F := F)).TileObl (D (F := F)) 𝒱 (P xc ic oc) v₀ 0 := by
  intro d c i O W hO _ _
  simp only [show (P xc ic oc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (Lof ⟨_, hci.1⟩ ⟨_, hci.2⟩) xc ic oc hF hpre (shareOf ⟨_, hci.1⟩ ⟨_, hci.2⟩) (shareOf ⟨_, hci.1⟩ ⟨_, hci.2⟩) O W hO).trans
    (wp_mono frame _ _ fun _ => obl_post)

end Payload

/-! ## The launch element of the ghost state -/

/-- The handshakes' cells and tokens; nothing else is dealt at the launch. -/
def u₀ : UU := (initOf (K (F := F)).hsCells (K (F := F)).hsToks, 1)

theorem hu₀ (xc : (d : Dev nD) → Buf (Elt F) (xLoc d)) (ic : (d : Dev nD) → Buf (Elt F) (iLoc d)) (oc : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P xc ic oc).x q thr) := by
  have none_dealt {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_dealt]; iempintro
  rw [show (bigSep Finset.univ fun thr : Thread nD τ => bigSep Finset.univ fun q : Fin 1 => (P (F := F) xc ic oc).x q thr) = bigSep Finset.univ fun _ => iprop(emp) from
    bigSep_congr fun _ _ => bigSep_univ_of_subsingleton (0 : Fin 1), none_dealt]
  iempintro

/-! ## @main on the TensorCore -/

variable [FloatOps F] (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v4

/-- The image flattened, the row numbers, what the result's array holds at the launch. -/
abbrev xOf (d : Dev nD) : Buf (Elt F) (xLoc d) :=
  shapeCast S786432 (shapeCast S3x262144 (m (aLoc d)) shapeCasts_S3x512x512_S3x262144) shapeCasts_S3x262144_S786432
abbrev iOf (d : Dev nD) : Buf (Elt F) (iLoc d) := m (iLoc d)
abbrev oOf (d : Dev nD) : Buf (Elt F) (oLoc d) := m (oLoc d)
/-- The program's result: the shuffled flat image at the image's shape. -/
abbrev result (d : Dev nD) : Buf (Elt F) (rLoc d) :=
  shapeCast S3x512x512 (shapeCast S3x262144 (shuf (xOf m d) (iOf m d)) shapeCasts_S786432_S3x262144) shapeCasts_S3x262144_S3x512x512

abbrev bA : DevRef τ sig := Proc.devRef .tc (main_arg0 : Ref sig .tc)
abbrev bI : DevRef τ sig := Proc.devRef .tc (main_arg1 : Ref sig .tc)
abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)
abbrev b4 : DevRef τ sig := Proc.devRef .tc (main_v4 : Ref sig .tc)

abbrev op0 : HloOp τ sig (Elt F) := StableHlo.reshape main_arg0 main_v0 (rfl : (.f32 : EltTy) = .f32) shapeCasts_S3x512x512_S3x262144
abbrev op1 : HloOp τ sig (Elt F) := StableHlo.reshape main_v0 main_v1 (rfl : (.f32 : EltTy) = .f32) shapeCasts_S3x262144_S786432
abbrev op3 : HloOp τ sig (Elt F) := StableHlo.reshape main_v2 main_v3 (rfl : (.f32 : EltTy) = .f32) shapeCasts_S786432_S3x262144
abbrev op4 : HloOp τ sig (Elt F) := StableHlo.reshape main_v3 main_v4 (rfl : (.f32 : EltTy) = .f32) shapeCasts_S3x262144_S3x512x512

/-- The TensorCore's arrays. -/
abbrev arrs : Finset (DevRef τ sig) := {bA, bI, b0, b1, b2, b3, b4}

theorem held_arrs (d : Dev nD) (W : Valuation τ sig (Elt F)) :
    (held (T d) arrs W : sProp 𝕄)
      = iprop((aLoc d ↦{fullShare} W bA) ∗ (iLoc d ↦{fullShare} W bI) ∗ ((SparseCore.T d).loc main_v0 ↦{fullShare} W b0)
          ∗ (xLoc d ↦{fullShare} W b1) ∗ (oLoc d ↦{fullShare} W b2) ∗ ((SparseCore.T d).loc main_v3 ↦{fullShare} W b3)
          ∗ (rLoc d ↦{fullShare} W b4)) := by
  unfold held arrs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the arrays hold: at the launch, before the call, after it, at the end. -/
def val0 (d : Dev nD) : Valuation τ sig (Elt F) := fun b => m (d, b)
def val1 (d : Dev nD) : Valuation τ sig (Elt F) := (op1 (F := F)).result ((op0 (F := F)).result (val0 m d))
def val2 (d : Dev nD) : Valuation τ sig (Elt F) := Function.update (val1 m d) b2 (shuf (xOf m d) (iOf m d))
def val3 (d : Dev nD) : Valuation τ sig (Elt F) := (op4 (F := F)).result ((op3 (F := F)).result (val2 m d))

theorem unscoped_held (d : Dev nD) : (unscopedBufs d (fun b => m ((SparseCore.T d).loc b)) : sProp 𝕄) = held (T d) arrs (val0 m d) := by
  rw [held_arrs]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The arrays that the reshapes before the call do not write hold what they held at the launch. -/
theorem val1_of (d : Dev nD) (b : DevRef τ sig) (h₀ : b ≠ b0) (h₁ : b ≠ b1) : val1 m d b = m (d, b) := by
  unfold val1
  rw [(op1 (F := F)).result_of_not_mem _ (show b ∉ ({b1} : Finset (DevRef τ sig)) by simpa using h₁),
    (op0 (F := F)).result_of_not_mem _ (show b ∉ ({b0} : Finset (DevRef τ sig)) by simpa using h₀)]
  rfl
theorem val1_x (d : Dev nD) : val1 m d b1 = xOf m d := by
  unfold val1
  refine (StableHlo.reshape_result main_v0 main_v1 _ _ _ _ _).trans ?_
  exact congrArg (fun v : FVec F S3x262144 .f32 => shapeCast S786432 v shapeCasts_S3x262144_S786432) (StableHlo.reshape_result main_arg0 main_v0 _ _ _ _ (val0 m d))
theorem val2_o (d : Dev nD) : val2 m d b2 = shuf (xOf m d) (iOf m d) := Function.update_self _ _ _
theorem val2_of (d : Dev nD) (b : DevRef τ sig) (h : b ≠ b2) : val2 m d b = val1 m d b := Function.update_of_ne h _ _
theorem val3_of (d : Dev nD) (b : DevRef τ sig) (h₃ : b ≠ b3) (h₄ : b ≠ b4) : val3 m d b = val2 m d b := by
  unfold val3
  rw [(op4 (F := F)).result_of_not_mem _ (show b ∉ ({b4} : Finset (DevRef τ sig)) by simpa using h₄),
    (op3 (F := F)).result_of_not_mem _ (show b ∉ ({b3} : Finset (DevRef τ sig)) by simpa using h₃)]
theorem val3_r (d : Dev nD) : val3 m d b4 = result m d := by
  unfold val3
  refine (StableHlo.reshape_result main_v3 main_v4 _ _ _ _ _).trans ?_
  refine congrArg (fun v : FVec F S3x262144 .f32 => shapeCast S3x512x512 v shapeCasts_S3x262144_S3x512x512)
    ((StableHlo.reshape_result main_v2 main_v3 _ _ _ _ (val2 m d)).trans ?_)
  exact congrArg (fun v : FVec F S786432 .f32 => shapeCast S3x262144 v shapeCasts_S786432_S3x262144) (val2_o m d)

theorem sub0 : (op0 (F := F)).bufs ⊆ arrs := show ({bA, b0} : Finset (DevRef τ sig)) ⊆ arrs by decide
theorem sub1 : (op1 (F := F)).bufs ⊆ arrs := show ({b0, b1} : Finset (DevRef τ sig)) ⊆ arrs by decide
theorem sub3 : (op3 (F := F)).bufs ⊆ arrs := show ({b2, b3} : Finset (DevRef τ sig)) ⊆ arrs by decide
theorem sub4 : (op4 (F := F)).bufs ⊆ arrs := show ({b3, b4} : Finset (DevRef τ sig)) ⊆ arrs by decide

/-- The launch's record for this memory. -/
abbrev PM : (K (F := F)).Pay (nD := nD) (Val := Elt F) (Name := ℕ) (U := UU) := P (xOf m) (iOf m) (oOf m)

/-- The call's operands and results, over the two SparseCores, are the three arrays held whole. -/
theorem st_eq (d : Dev nD) : (bigSep Finset.univ fun c : Fin ((K (F := F)).nCore 0) => (PM m).st 0 d c)
    = (iprop((iLoc d ↦{fullShare} iOf m d) ∗ (xLoc d ↦{fullShare} xOf m d) ∗ (oLoc d ↦{fullShare} oOf m d)) : sProp 𝕄) :=
  (all_tasks (xOf m) (iOf m) d (oOf m d)).symm
theorem dn_eq (d : Dev nD) : (bigSep Finset.univ fun c : Fin ((K (F := F)).nCore 0) => (PM m).dn 0 d c)
    = (iprop((iLoc d ↦{fullShare} iOf m d) ∗ (xLoc d ↦{fullShare} xOf m d) ∗ (oLoc d ↦{fullShare} shuf (xOf m d) (iOf m d))) : sProp 𝕄) :=
  (all_tasks (xOf m) (iOf m) d (shuf (xOf m d) (iOf m d))).symm

/-- What @main ends with: both arguments as at the launch, the result at the shuffled image. -/
abbrev FIN (d : Dev nD) : sProp 𝕄 :=
  iprop((aLoc d ↦{fullShare} m (aLoc d)) ∗ (iLoc d ↦{fullShare} m (iLoc d)) ∗ rLoc d ↦{fullShare} result m d)

/-- @main on device `d`'s TensorCore: the two reshapes, the call, the two reshapes. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := arrs) sub0 (V := val0 m d)) $$ [Hb Hheld]
  · isplitl [Hb] <;> iassumption
  iintro ⟨Hb, Hheld⟩
  rw [wp_ret]; imodintro
  iapply (wp_hlo_within 𝒱 (SparseCore.T d) none Set.univ (op := op1) (S := arrs) sub1 (V := (op0 (F := F)).result (val0 m d))) $$ [Hb Hheld]
  · isplitl [Hb] <;> iassumption
  iintro ⟨Hb, Hheld⟩
  rw [wp_ret]; imodintro
  ihave Hh := (Entails.of_eq ((show (held (T d) arrs ((op1 (F := F)).result ((op0 (F := F)).result (val0 m d))) : sProp 𝕄) = held (T d) arrs (val1 m d) from rfl).trans
    (held_arrs d (val1 m d)))) $$ Hheld
  icases Hh with ⟨Ha, Hi, H0, Hx, Ho, H3, Hr⟩
  iapply ((K (F := F)).wp_run (D (F := F)) 𝒱 (EH := EH) (P := PM m) κ d 0) $$ [Hst Ha Hi H0 Hx Ho H3 Hr Hb Hts]
  isplitr; · iexact Hctx
  isplitl [Hst]; · iexact Hst
  isplitl [Hi Hx Ho]
  · rw [st_eq, val1_x, val1_of m d bI (by decide) (by decide), val1_of m d b2 (by decide) (by decide)]
    isplitl [Hi]; · iexact Hi
    isplitl [Hx]; · iexact Hx
    iexact Ho
  iintro ⟨Hst, Hdn⟩
  ihave Hdn' := (Entails.of_eq (dn_eq m d)) $$ Hdn
  icases Hdn' with ⟨Hi, Hx, Ho⟩
  iapply (wp_hlo_within 𝒱 (SparseCore.T d) none Set.univ (op := op3) (S := arrs) sub3 (V := val2 m d)) $$ [Hb Ha Hi H0 Hx Ho H3 Hr]
  · isplitl [Hb]; · iexact Hb
    rw [held_arrs, val2_o, val2_of m d bA (by decide), val2_of m d bI (by decide), val2_of m d b0 (by decide), val2_of m d b1 (by decide),
      val2_of m d b3 (by decide), val2_of m d b4 (by decide), val1_x, val1_of m d bI (by decide) (by decide)]
    isplitl [Ha]; · iexact Ha
    isplitl [Hi]; · iexact Hi
    isplitl [H0]; · iexact H0
    isplitl [Hx]; · iexact Hx
    isplitl [Ho]; · iexact Ho
    isplitl [H3]; · iexact H3
    iexact Hr
  iintro ⟨Hb, Hheld⟩
  rw [wp_ret]; imodintro
  iapply (wp_hlo_within 𝒱 (SparseCore.T d) none Set.univ (op := op4) (S := arrs) sub4 (V := (op3 (F := F)).result (val2 m d))) $$ [Hb Hheld]
  · isplitl [Hb] <;> iassumption
  iintro ⟨Hb, Hheld⟩
  ihave Hh := (Entails.of_eq ((show (held (T d) arrs ((op4 (F := F)).result ((op3 (F := F)).result (val2 m d))) : sProp 𝕄) = held (T d) arrs (val3 m d) from rfl).trans
    (held_arrs d (val3 m d)))) $$ Hheld
  rw [val3_r, val3_of m d bA (by decide) (by decide), val3_of m d bI (by decide) (by decide), val2_of m d bA (by decide), val2_of m d bI (by decide),
    val1_of m d bA (by decide) (by decide), val1_of m d bI (by decide) (by decide)]
  icases Hh with ⟨Ha, Hi, -, -, -, -, Hr⟩
  rw [wp_ret]; imodintro; imodintro
  isplitl [Hst]; · iexact Hst
  isplitr [Hb Hts]
  · isplitl [Ha]; · iexact Ha
    isplitl [Hi]; · iexact Hi
    iexact Hr
  isplitl [Hb] <;> iassumption

/-- What the claims read of device `d`'s final memory. -/
def fq (d : Dev nD) (s' : Phys nD τ sig (Elt F)) : Prop :=
  s'.mem.mem (rLoc d) = result m d ∧ s'.mem.mem (aLoc d) = m (aLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := rLoc d) (I := Finset.univ) (q := fullShare) (f := result m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The final state: on every device the result is the shuffled image and both arguments are as at the launch; every
    semaphore counter is zero. -/
def QC : PUnit × MemSt nD τ sig (Elt F) → Prop := fun r =>
  (∀ c : Dev nD, r.2.mem (rLoc c) = result m c ∧ r.2.mem (aLoc c) = m (aLoc c) ∧ r.2.mem (iLoc c) = m (iLoc c)) ∧ r.2.sem = fun _ => 0

/-- Every execution of the program from row numbers in range ends in such a state. -/
theorem run_main [∀ e, Nonempty (Elt F e)] (hpre : ∀ d, InRange (iOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (xOf m) (iOf m) (oOf m) facts hpre)
    (fun q _ => match q with | 0 => SparseCore.Cfg.VecSplit.of_plain (vecSplit (xOf m) (iOf m) (oOf m)))
    m ρ main (fun _ => iprop(emp)) (FIN m) (u₀ (F := F)) (sep_elim_left.trans (hu₀ (xOf m) (iOf m) (oOf m))) (hmain m ρ) (fq m) (hfin m) (QC m)
    (fun _ h hz => ⟨h, hz⟩)

end Cert.Proof.RunIdeal

end
-- ==== Proof.Value.lean ====
/-
  The precondition read as a fact about the row numbers, and the reference's result: where every row number is in range,
  jnp's take along the pixel axis — its wrap of negative indices, its mask of out-of-range ones and its gather — holds, in
  channel `c` at pixel `p`, the flat image's element of channel `c` at the pixel that row number `p` names. Laid out flat,
  that is the shuffled image the kernel computes.
-/
module

public import proofs.«01_k».proof.Proof.SetupIdeal
public import proofs.«01_k».proof.Proof.Gen.ReferenceIdeal.Run
public import proofs.«01_k».proof.Proof.Gen.Pre_idx_in_range
public import Idealize.ShloMosaic.Lib.ReduceAll
public import Idealize.ShloMosaic.Lib.Pipeline.Value
public import Idealize.ShloMosaic.Lib.Pointwise.Reshape
public import Idealize.ShloMosaic.Lib.StableHlo.Predicate

@[expose] public section

set_option maxRecDepth 16384

noncomputable section

namespace Cert.Proof.Value

open Cert.ReferenceIdeal Cert.ReferenceIdeal.Gen
open Idealize.ShloMosaic
open Idealize.ShloMosaic.StableHlo.Predicate (sge_iff_toNat sle_iff_toNat slt_iff_toNat toInt_eq_toNat_of_lt)
open Cert.Proof.RunIdeal (shuf at3 at1)

attribute [local instance] Cert.Pre_idx_in_range.Gen.facts Cert.ReferenceIdeal.Gen.facts

/-! ## The precondition -/

/-- A word between 0 and 262144 as a signed number is below 262144 as a natural number. -/
theorem word_lt (v : BitVec 32) (e : IntOp.andi (IntOp.cmpi .sge v 0#32) (IntOp.cmpi .slt v 262144#32) = 1#1) :
    v.toNat < 262144 := by
  obtain ⟨h0, h1⟩ := IntOp.andi_eq_one.1 e
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at h0 h1
  omega

/-- The precondition says that every row number is below 262144. -/
theorem in_range {F : FTy → Type} [FloatOps F] (x : FVec F S3x512x512 .f32) (idx : IVec S262144 32)
    (h : Cert.Pre_idx_in_range.fn x idx = fun _ => 1#1) (j : S262144.Idx) : (idx j).toNat < 262144 := by
  haveI : Subsingleton Cert.Pre_idx_in_range.S_.Idx := ⟨fun a b => funext fun i => i.elim0⟩
  have e := congrFun h (fun a => a.elim0)
  exact word_lt _ (Host.reduce_andi_all _ _ _ _ _ e j)

/-- Where the mask is one, a select takes its first operand. -/
theorem select_one {s : Shape} {α : Type} (c : IVec s 1) (a b : s.Idx → α) (j : s.Idx) (h : c j = 1#1) : select c a b j = a j := if_pos h

/-! ## The reference's take -/

section Take

variable {α : Type} (idx : IVec S262144 32) (hr : ∀ j, (idx j).toNat < 262144)

/-- The row numbers after the take's wrap of negative ones. -/
abbrev wrapped : IVec S262144 32 :=
  select (cmpi .slt idx (broadcastInDim S262144 ![] bcast_S_S262144 (constantI S_ 32 0#32)))
    (addi idx (broadcastInDim S262144 ![] bcast_S_S262144 (constantI S_ 32 262144#32))) idx

/-- The same as the gather reads them, one to a row. -/
abbrev starts : IVec S262144x1 32 := broadcastInDim S262144x1 ![0] bcast_S262144_S262144x1_0 (wrapped idx)

/-- The take's mask of the row numbers in range. -/
abbrev mask : IVec S262144 1 :=
  Host.reduce IntOp.andi (andi (cmpi .sge (starts idx) (broadcastInDim S262144x1 ![] bcast_S_S262144x1 (constantI S_ 32 0#32)))
    (cmpi .sle (starts idx) (broadcastInDim S262144x1 ![0, 1] bcast_S1x1_S262144x1_0_1
      (broadcastInDim S1x1 ![1] bcast_S1_S1x1_1 (constantI S1 32 262143#32))))) (constantI S_ 1 1#1) reducesTo_S262144x1_S262144_d1 h_S_

include hr

/-- In range, the wrap changes no row number. -/
theorem wrapped_eq : wrapped idx = idx := by
  funext j
  have h := hr j
  have hn : ¬ IntOp.cmpi .slt (idx j) 0#32 = 1#1 := fun e => by
    have := (slt_iff_toNat (by omega) (by decide)).1 e
    simp at this
  exact if_neg hn

/-- The gather's row `k` holds row number `k`. -/
theorem starts_eq (k : S262144x1.Idx) : starts idx k = idx (at1 (k 0).val (k 0).isLt) := by
  show broadcastInDim S262144x1 ![0] bcast_S262144_S262144x1_0 (wrapped idx) k = _
  rw [wrapped_eq idx hr]
  refine broadcastInDim_apply _ _ _ _ _ fun a => ?_
  match a with
  | ⟨0, _⟩ => rfl

/-- In range, the mask is all ones. -/
theorem mask_eq (j : S262144.Idx) : mask idx j = 1#1 := by
  refine Host.reduce_andi_one _ _ _ _ _ rfl fun i => ?_
  show IntOp.andi (IntOp.cmpi .sge (starts idx i) 0#32) (IntOp.cmpi .sle (starts idx i) 262143#32) = 1#1
  rw [starts_eq idx hr]
  have h := hr (at1 (i 0).val (i 0).isLt)
  rw [(sge_iff_toNat (by omega) (by decide)).2 (Nat.zero_le _), (sle_iff_toNat (by omega) (by decide)).2 (by
    show (idx _).toNat ≤ 262143
    omega)]
  rfl

/-- Channel `c` and pixel `n`, as an index of the flattened channels. -/
abbrev at2 (c : Fin 3) (n : ℕ) (h : n < 262144) : S3x262144.Idx := fun | 0 => c | 1 => ⟨n, h⟩

/-- The gather holds, in a channel at a pixel, that channel's element at the pixel its row number names. -/
theorem gather_eq (x : S3x262144.Idx → α) (j : S3x262144.Idx) :
    Host.gather gather_S3x262144_S262144x1_S3x262144_0_1_n_n_1_1_31 x (starts idx) j
      = x (at2 (j 0) (idx (at1 (j 1).val (j 1).isLt)).toNat (hr _)) := by
  refine congrArg x (funext fun a => Fin.ext ?_)
  match a with
  | ⟨0, _⟩ => show 0 + 0 + (j 0).val = (j 0).val; omega
  | ⟨1, _⟩ =>
    have e : ∀ k : S262144x1.Idx, (k 0).val = (j 1).val → (starts idx k).toInt.toNat = (idx (at1 (j 1).val (j 1).isLt)).toNat := fun k hk => by
      have h := hr (at1 (j 1).val (j 1).isLt)
      rw [starts_eq idx hr k, show at1 (k 0).val (k 0).isLt = at1 (j 1).val (j 1).isLt from funext fun | 0 => Fin.ext hk,
        toInt_eq_toNat_of_lt (by omega), Int.toNat_natCast]
    have h := hr (at1 (j 1).val (j 1).isLt)
    have e' := e (GatherDims.siIdx gather_S3x262144_S262144x1_S3x262144_0_1_n_n_1_1_31 j ⟨0, Nat.one_pos⟩) rfl
    show min (starts idx (GatherDims.siIdx gather_S3x262144_S262144x1_S3x262144_0_1_n_n_1_1_31 j ⟨0, Nat.one_pos⟩)).toInt.toNat (262144 - 1) + 0 + 0 = _
    rw [e']
    show min _ (262144 - 1) + 0 + 0 = (idx (at1 (j 1).val (j 1).isLt)).toNat
    omega

/-- The take: in range, the masked gather is the flat shuffle of the flattened image, laid out by channel. -/
theorem take_eq (x : S3x262144.Idx → α) (nan : S3x262144.Idx → α) (h₁ : S3x262144.ShapeCasts Cert.KernelIdeal.S786432)
    (h₂ : Cert.KernelIdeal.S786432.ShapeCasts S3x262144) :
    select (broadcastInDim S3x262144 ![1] bcast_S262144_S3x262144_1 (mask idx))
      (Host.gather gather_S3x262144_S262144x1_S3x262144_0_1_n_n_1_1_31 x (starts idx)) nan
      = shapeCast S3x262144 (shuf (shapeCast Cert.KernelIdeal.S786432 x h₁) idx) h₂ := by
  funext j
  have h0 : (j 0).val < 3 := (j 0).isLt
  have h1 : (j 1).val < 262144 := (j 1).isLt
  have hm : broadcastInDim S3x262144 ![1] bcast_S262144_S3x262144_1 (mask idx) j = 1#1 := mask_eq idx hr _
  refine (select_one _ _ _ j hm).trans ((gather_eq idx hr x j).trans ?_)
  have hi := hr (at1 (j 1).val (j 1).isLt)
  rw [shapeCast_apply _ h₂ j (at3 (262144 * (j 0).val + (j 1).val) (by omega)) (by
    rw [rowMajor_val1, rowMajor_val2 _ 262144 rfl]
    show 262144 * (j 0).val + (j 1).val = _
    ring)]
  refine (shapeCast_apply _ h₁ _ _ ?_).symm
  rw [rowMajor_val1, rowMajor_val2 _ 262144 rfl]
  have e1 : (262144 * (j 0).val + (j 1).val) / 262144 = (j 0).val := by omega
  have e2 : (262144 * (j 0).val + (j 1).val) % 262144 = (j 1).val := by omega
  have e3 : (at1 ((262144 * (j 0).val + (j 1).val) % 262144) (Nat.mod_lt _ (by decide))) = at1 (j 1).val (j 1).isLt := funext fun | 0 => Fin.ext e2
  show (j 0).val * 262144 + (idx (at1 (j 1).val (j 1).isLt)).toNat
    = 262144 * ((262144 * (j 0).val + (j 1).val) / 262144) + (idx (at1 ((262144 * (j 0).val + (j 1).val) % 262144) (Nat.mod_lt _ (by decide)))).toNat % 262144
  rw [e3, e1, Nat.mod_eq_of_lt hi]
  ring

end Take

end Cert.Proof.Value

end
-- ==== Proof.lean ====
/-
  The proof of `Cert.Claim`: the kernel's frame, its idealization's and the reference's, and that on extended reals the
  kernel's one result is the reference's. The kernel's runs are `Run.run_main` and `RunIdeal.run_main` (Proof/Launch.lean,
  Proof/LaunchIdeal.lean); the reference's take is read in Proof/Value.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_range
public import proofs.«01_k».proof.Proof.Launch
public import proofs.«01_k».proof.Proof.LaunchIdeal
public import proofs.«01_k».proof.Proof.Value
public import Idealize.ShloMosaic.Adequacy
public import Idealize.ShloMosaic.Init

@[expose] public section

noncomputable section

namespace Cert.Proof

open Idealize.ShloMosaic Idealize.SL.Sem

/-- The kernel runs, from row numbers in range, with its arguments unchanged and every semaphore at zero at the end. -/
theorem frame_kernel : Cert.quiescent_Kernel (hKernel := Cert.Kernel.Gen.facts) (hPre_idx_in_range := Cert.Pre_idx_in_range.Gen.facts) := by
  intro m g hpre
  refine (θ_run _ _ _).mono (fun _ h => ⟨fun c => (h.1 c).2, h.2⟩)
    (Run.run_main (F := Bits) m g fun d => Value.in_range _ _ (hpre d))

/-- So does its idealization. -/
theorem frame_ideal : Cert.quiescent_KernelIdeal (hKernelIdeal := Cert.KernelIdeal.Gen.facts) (hPre_idx_in_range := Cert.Pre_idx_in_range.Gen.facts) := by
  intro m g hpre
  refine (θ_run _ _ _).mono (fun _ h => ⟨fun c => (h.1 c).2, h.2⟩)
    (RunIdeal.run_main (F := Ideal) m g fun d => Value.in_range _ _ (hpre d))

/-- The reference runs from any arguments, leaves them unchanged, and has no semaphore that could end other than zero. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run (F := Ideal) m g)

/-- So it does from the arguments the precondition admits. -/
theorem frame_reference_pre : Cert.quiescent_ReferenceIdeal_pre_idx_in_range (hReferenceIdeal := Cert.ReferenceIdeal.Gen.facts)
    (hPre_idx_in_range := Cert.Pre_idx_in_range.Gen.facts) :=
  fun m g _ => frame_reference m g trivial

/-- On extended reals, from equal arguments with row numbers in range, the kernel and the reference end with equal results. -/
theorem algebraic : Cert.algebraic_KernelIdeal_ReferenceIdeal (hKernelIdeal := Cert.KernelIdeal.Gen.facts)
    (hReferenceIdeal := Cert.ReferenceIdeal.Gen.facts) (hPre_idx_in_range := Cert.Pre_idx_in_range.Gen.facts) := by
  intro m g m' g' hpre hagree
  refine ⟨fun c => RunIdeal.result m c, (θ_run _ _ _).mono (fun _ h c => h.1 c)
    (RunIdeal.run_main (F := Ideal) m g fun d => Value.in_range _ _ (hpre d)), ?_⟩
  refine (θ_run _ _ _).mono (fun _ h c => ⟨(h c).1.trans ?_, (h c).2⟩) (Cert.ReferenceIdeal.Value.run (F := Ideal) m' g')
  rw [(hagree c).1, (hagree c).2]
  exact congrArg (fun v => shapeCast _ v _) (Value.take_eq _ (Value.in_range _ _ (hpre c)) _ _ _ _)

/-- Everything the certificate claims. -/
theorem claim : Cert.Claim :=
  ⟨Cert.Kernel.Gen.facts, Cert.KernelIdeal.Gen.facts, Cert.ReferenceIdeal.Gen.facts, Cert.Pre_idx_in_range.Gen.facts,
    frame_kernel, frame_ideal, frame_reference, frame_reference_pre, trivial, algebraic⟩

end Cert.Proof

end
